-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_symmetric [hPre_symmetric : Cert.Pre_symmetric.Facts] (m : (ℓ : Loc Cert.KernelIdeal.nD Cert.KernelIdeal.τ Cert.KernelIdeal.sig) → Buf (Elt Ideal) ℓ) : Prop :=
  ∀ c : Dev Cert.KernelIdeal.nD,
    (Cert.Pre_symmetric.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_symmetric [hPre_symmetric : Cert.Pre_symmetric.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_symmetric.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_symmetric [hKernelIdeal : Cert.KernelIdeal.Facts] [hPre_symmetric : Cert.Pre_symmetric.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_symmetric m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_symmetric [hReferenceIdeal : Cert.ReferenceIdeal.Facts] [hPre_symmetric : Cert.Pre_symmetric.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_symmetric m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_symmetric [hKernelIdeal : Cert.KernelIdeal.Facts] [hReferenceIdeal : Cert.ReferenceIdeal.Facts] [hPre_symmetric : Cert.Pre_symmetric.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_symmetric m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_symmetric : Cert.Pre_symmetric.Facts),
    quiescent_Kernel (hKernel := hKernel)
    ∧ quiescent_KernelIdeal (hKernelIdeal := hKernelIdeal)
    ∧ quiescent_KernelIdeal_pre_symmetric (hKernelIdeal := hKernelIdeal) (hPre_symmetric := hPre_symmetric)
    ∧ quiescent_ReferenceIdeal (hReferenceIdeal := hReferenceIdeal)
    ∧ quiescent_ReferenceIdeal_pre_symmetric (hReferenceIdeal := hReferenceIdeal) (hPre_symmetric := hPre_symmetric)
    ∧ preserves_Kernel_KernelIdeal
    ∧ algebraic_KernelIdeal_ReferenceIdeal_pre_symmetric (hKernelIdeal := hKernelIdeal) (hReferenceIdeal := hReferenceIdeal) (hPre_symmetric := hPre_symmetric)
-- ==== Pre_symmetric.lean ====
abbrev S1024x1024 : Shape := ⟨2, ![1024, 1024]⟩
abbrev S8x1024x16x4 : Shape := ⟨4, ![8, 1024, 16, 4]⟩
abbrev S5x64x64 : Shape := ⟨3, ![5, 64, 64]⟩
abbrev S64 : Shape := ⟨1, ![64]⟩

class Facts : Prop where
  transposes_S1024x1024_S1024x1024_1_0 : S1024x1024.Transposes [1, 0] S1024x1024

variable [Facts]

def fn {F : FTy → Type} [FloatOps F] (main_arg0 : FVec F S1024x1024 .f32) (main_arg1 : FVec F S8x1024x16x4 .f32) (main_arg2 : FVec F S5x64x64 .f32) (main_arg3 : FVec F S64 .f32) (main_arg4 : FVec F S5x64x64 .f32) (main_arg5 : FVec F S64 .f32) : IVec S1024x1024 1 :=
  let main_v0 : FVec F S1024x1024 .f32 := (transpose S1024x1024 [1, 0] · transposes_S1024x1024_S1024x1024_1_0) main_arg0
  let main_v1 : IVec S1024x1024 1 := cmpf .oeq main_arg0 main_v0
  main_v1
-- ==== Kernel.lean ====
abbrev S1024x1024 : Shape := ⟨2, ![1024, 1024]⟩
abbrev S8x1024x16x4 : Shape := ⟨4, ![8, 1024, 16, 4]⟩
abbrev S5x64x64 : Shape := ⟨3, ![5, 64, 64]⟩
abbrev S64 : Shape := ⟨1, ![64]⟩
abbrev S8x1024x64 : Shape := ⟨3, ![8, 1024, 64]⟩
abbrev S8x64x1024 : Shape := ⟨3, ![8, 64, 1024]⟩
abbrev S512x1024 : Shape := ⟨2, ![512, 1024]⟩
abbrev S1x64 : Shape := ⟨2, ![1, 64]⟩
abbrev S8x64 : Shape := ⟨2, ![8, 64]⟩
abbrev S512 : Shape := ⟨1, ![512]⟩
abbrev S512x1 : Shape := ⟨2, ![512, 1]⟩
abbrev S_ : Shape := ⟨0, ![]⟩
abbrev S5x64x128 : Shape := ⟨3, ![5, 64, 128]⟩
abbrev S5x128x128 : Shape := ⟨3, ![5, 128, 128]⟩
abbrev S1024 : Shape := ⟨1, ![1024]⟩
abbrev S1024x1 : Shape := ⟨2, ![1024, 1]⟩
abbrev S1x1024 : Shape := ⟨2, ![1, 1024]⟩
abbrev S1x128x128 : Shape := ⟨3, ![1, 128, 128]⟩
abbrev S128x128 : Shape := ⟨2, ![128, 128]⟩
abbrev S128x1024 : Shape := ⟨2, ![128, 1024]⟩
abbrev S8x1024x1x64 : Shape := ⟨4, ![8, 1024, 1, 64]⟩

abbrev nBuf : Space → Nat
  | .hbm => 33
  | .vmem => 7
  | .smem => 0
  | _ => 0

abbrev bufTy : (tb : Table) → Fin (tcTables nBuf tb) → BufTy
  | .hbm, ⟨0, _⟩ => ⟨S1024x1024, .f32⟩
  | .hbm, ⟨1, _⟩ => ⟨S8x1024x16x4, .f32⟩
  | .hbm, ⟨2, _⟩ => ⟨S5x64x64, .f32⟩
  | .hbm, ⟨3, _⟩ => ⟨S64, .f32⟩
  | .hbm, ⟨4, _⟩ => ⟨S5x64x64, .f32⟩
  | .hbm, ⟨5, _⟩ => ⟨S64, .f32⟩
  | .hbm, ⟨6, _⟩ => ⟨S8x1024x64, .f32⟩
  | .hbm, ⟨7, _⟩ => ⟨S8x64x1024, .f32⟩
  | .hbm, ⟨8, _⟩ => ⟨S512x1024, .f32⟩
  | .hbm, ⟨9, _⟩ => ⟨S1x64, .f32⟩
  | .hbm, ⟨10, _⟩ => ⟨S8x64, .f32⟩
  | .hbm, ⟨11, _⟩ => ⟨S512, .f32⟩
  | .hbm, ⟨12, _⟩ => ⟨S512x1, .f32⟩
  | .hbm, ⟨13, _⟩ => ⟨S1x64, .f32⟩
  | .hbm, ⟨14, _⟩ => ⟨S8x64, .f32⟩
  | .hbm, ⟨15, _⟩ => ⟨S512, .f32⟩
  | .hbm, ⟨16, _⟩ => ⟨S512x1, .f32⟩
  | .hbm, ⟨17, _⟩ => ⟨S5x64x64, .f32⟩
  | .hbm, ⟨18, _⟩ => ⟨S_, .f32⟩
  | .hbm, ⟨19, _⟩ => ⟨S5x64x64, .f32⟩
  | .hbm, ⟨20, _⟩ => ⟨S5x64x128, .f32⟩
  | .hbm, ⟨21, _⟩ => ⟨S5x64x128, .f32⟩
  | .hbm, ⟨22, _⟩ => ⟨S5x128x128, .f32⟩
  | .hbm, ⟨23, _⟩ => ⟨S5x64x64, .f32⟩
  | .hbm, ⟨24, _⟩ => ⟨S_, .f32⟩
  | .hbm, ⟨25, _⟩ => ⟨S5x64x64, .f32⟩
  | .hbm, ⟨26, _⟩ => ⟨S5x64x128, .f32⟩
  | .hbm, ⟨27, _⟩ => ⟨S5x64x128, .f32⟩
  | .hbm, ⟨28, _⟩ => ⟨S5x128x128, .f32⟩
  | .hbm, ⟨29, _⟩ => ⟨S512x1024, .f32⟩
  | .hbm, ⟨30, _⟩ => ⟨S8x64x1024, .f32⟩
  | .hbm, ⟨31, _⟩ => ⟨S8x1024x64, .f32⟩
  | .hbm, ⟨32, _⟩ => ⟨S8x1024x1x64, .f32⟩
  | .local _ .vmem, ⟨0, _⟩ => ⟨S1024x1024, .f32⟩
  | .local _ .vmem, ⟨1, _⟩ => ⟨S512x1024, .f32⟩
  | .local _ .vmem, ⟨2, _⟩ => ⟨S5x128x128, .f32⟩
  | .local _ .vmem, ⟨3, _⟩ => ⟨S512x1, .f32⟩
  | .local _ .vmem, ⟨4, _⟩ => ⟨S5x128x128, .f32⟩
  | .local _ .vmem, ⟨5, _⟩ => ⟨S512x1, .f32⟩
  | .local _ .vmem, ⟨6, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S1024x1024 : Shape := ⟨2, ![1024, 1024]⟩
abbrev S8x1024x16x4 : Shape := ⟨4, ![8, 1024, 16, 4]⟩
abbrev S5x64x64 : Shape := ⟨3, ![5, 64, 64]⟩
abbrev S64 : Shape := ⟨1, ![64]⟩
abbrev S8x1024x64 : Shape := ⟨3, ![8, 1024, 64]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S1x64x64 : Shape := ⟨3, ![1, 64, 64]⟩
abbrev S64x64 : Shape := ⟨2, ![64, 64]⟩
abbrev S8x64x1024 : Shape := ⟨3, ![8, 64, 1024]⟩
abbrev S1x1x64 : Shape := ⟨3, ![1, 1, 64]⟩
abbrev S8x1024x1x64 : Shape := ⟨4, ![8, 1024, 1, 64]⟩

abbrev nBuf : Space → Nat
  | .hbm => 125
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8x1024x16x4, .f32⟩
  | .hbm, ⟨2, _⟩ => ⟨S5x64x64, .f32⟩
  | .hbm, ⟨3, _⟩ => ⟨S64, .f32⟩
  | .hbm, ⟨4, _⟩ => ⟨S5x64x64, .f32⟩
  | .hbm, ⟨5, _⟩ => ⟨S64, .f32⟩
  | .hbm, ⟨6, _⟩ => ⟨S8x1024x64, .f32⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .i1⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S_, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1024x1024, .i32⟩
  | .hbm, ⟨21, _⟩ => ⟨S1024x1024, .i32⟩
  | .hbm, ⟨22, _⟩ => ⟨S_, .i32⟩
  | .hbm, ⟨23, _⟩ => ⟨S1024x1024, .i32⟩
  | .hbm, ⟨24, _⟩ => ⟨S1024x1024, .i32⟩
  | .hbm, ⟨25, _⟩ => ⟨S1024x1024, .i1⟩
  | .hbm, ⟨26, _⟩ => ⟨S1024x1024, .f32⟩
  | .hbm, ⟨27, _⟩ => ⟨S1024x1, .f32⟩
  | .hbm, ⟨28, _⟩ => ⟨S1024x1024, .f32⟩
  | .hbm, ⟨29, _⟩ => ⟨S1024x1024, .f32⟩
  | .hbm, ⟨30, _⟩ => ⟨S1x1024, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S1x64x64, .f32⟩
  | .hbm, ⟨35, _⟩ => ⟨S64x64, .f32⟩
  | .hbm, ⟨36, _⟩ => ⟨S8x1024x64, .f32⟩
  | .hbm, ⟨37, _⟩ => ⟨S8x64x1024, .f32⟩
  | .hbm, ⟨38, _⟩ => ⟨S8x1024x64, .f32⟩
  | .hbm, ⟨39, _⟩ => ⟨S1x64x64, .f32⟩
  | .hbm, ⟨40, _⟩ => ⟨S64x64, .f32⟩
  | .hbm, ⟨41, _⟩ => ⟨S8x1024x64, .f32⟩
  | .hbm, ⟨42, _⟩ => ⟨S8x1024x64, .f32⟩
  | .hbm, ⟨43, _⟩ => ⟨S8x64x1024, .f32⟩
  | .hbm, ⟨44, _⟩ => ⟨S8x1024x64, .f32⟩
  | .hbm, ⟨45, _⟩ => ⟨S_, .f32⟩
  | .hbm, ⟨46, _⟩ => ⟨S8x1024x64, .f32⟩
  | .hbm, ⟨47, _⟩ => ⟨S8x1024x64, .f32⟩
  | .hbm, ⟨48, _⟩ => ⟨S8x1024x64, .f32⟩
  | .hbm, ⟨49, _⟩ => ⟨S1x64x64, .f32⟩
  | .hbm, ⟨50, _⟩ => ⟨S64x64, .f32⟩
  | .hbm, ⟨51, _⟩ => ⟨S8x1024x64, .f32⟩
  | .hbm, ⟨52, _⟩ => ⟨S8x1024x64, .f32⟩
  | .hbm, ⟨53, _⟩ => ⟨S8x64x1024, .f32⟩
  | .hbm, ⟨54, _⟩ => ⟨S8x1024x64, .f32⟩
  | .hbm, ⟨55, _⟩ => ⟨S_, .f32⟩
  | .hbm, ⟨56, _⟩ => ⟨S8x1024x64, .f32⟩
  | .hbm, ⟨57, _⟩ => ⟨S8x1024x64, .f32⟩
  | .hbm, ⟨58, _⟩ => ⟨S8x1024x64, .f32⟩
  | .hbm, ⟨59, _⟩ => ⟨S1x64x64, .f32⟩
  | .hbm, ⟨60, _⟩ => ⟨S64x64, .f32⟩
  | .hbm, ⟨61, _⟩ => ⟨S8x1024x64, .f32⟩
  | .hbm, ⟨62, _⟩ => ⟨S8x1024x64, .f32⟩
  | .hbm, ⟨63, _⟩ => ⟨S8x64x1024, .f32⟩
  | .hbm, ⟨64, _⟩ => ⟨S8x1024x64, .f32⟩
  | .hbm, ⟨65, _⟩ => ⟨S_, .f32⟩
  | .hbm, ⟨66, _⟩ => ⟨S8x1024x64, .f32⟩
  | .hbm, ⟨67, _⟩ => ⟨S8x1024x64, .f32⟩
  | .hbm, ⟨68, _⟩ => ⟨S8x1024x64, .f32⟩
  | .hbm, ⟨69, _⟩ => ⟨S1x64x64, .f32⟩
  | .hbm, ⟨70, _⟩ => ⟨S64x64, .f32⟩
  | .hbm, ⟨71, _⟩ => ⟨S8x1024x64, .f32⟩
  | .hbm, ⟨72, _⟩ => ⟨S8x1024x64, .f32⟩
  | .hbm, ⟨73, _⟩ => ⟨S1x1x64, .f32⟩
  | .hbm, ⟨74, _⟩ => ⟨S8x1024x64, .f32⟩
  | .hbm, ⟨75, _⟩ => ⟨S8x1024x64, .f32⟩
  | .hbm, ⟨76, _⟩ => ⟨S_, .f32⟩
  | .hbm, ⟨77, _⟩ => ⟨S8x1024x64, .f32⟩
  | .hbm, ⟨78, _⟩ => ⟨S8x1024x64, .f32⟩
  | .hbm, ⟨79, _⟩ => ⟨S1x64x64, .f32⟩
  | .hbm, ⟨80, _⟩ => ⟨S64x64, .f32⟩
  | .hbm, ⟨81, _⟩ => ⟨S8x1024x64, .f32⟩
  | .hbm, ⟨82, _⟩ => ⟨S8x64x1024, .f32⟩
  | .hbm, ⟨83, _⟩ => ⟨S8x1024x64, .f32⟩
  | .hbm, ⟨84, _⟩ => ⟨S1x64x64, .f32⟩
  | .hbm, ⟨85, _⟩ => ⟨S64x64, .f32⟩
  | .hbm, ⟨86, _⟩ => ⟨S8x1024x64, .f32⟩
  | .hbm, ⟨87, _⟩ => ⟨S8x1024x64, .f32⟩
  | .hbm, ⟨88, _⟩ => ⟨S8x64x1024, .f32⟩
  | .hbm, ⟨89, _⟩ => ⟨S8x1024x64, .f32⟩
  | .hbm, ⟨90, _⟩ => ⟨S_, .f32⟩
  | .hbm, ⟨91, _⟩ => ⟨S8x1024x64, .f32⟩
  | .hbm, ⟨92, _⟩ => ⟨S8x1024x64, .f32⟩
  | .hbm, ⟨93, _⟩ => ⟨S8x1024x64, .f32⟩
  | .hbm, ⟨94, _⟩ => ⟨S1x64x64, .f32⟩
  | .hbm, ⟨95, _⟩ => ⟨S64x64, .f32⟩
  | .hbm, ⟨96, _⟩ => ⟨S8x1024x64, .f32⟩
  | .hbm, ⟨97, _⟩ => ⟨S8x1024x64, .f32⟩
  | .hbm, ⟨98, _⟩ => ⟨S8x64x1024, .f32⟩
  | .hbm, ⟨99, _⟩ => ⟨S8x1024x64, .f32⟩
  | .hbm, ⟨100, _⟩ => ⟨S_, .f32⟩
  | .hbm, ⟨101, _⟩ => ⟨S8x1024x64, .f32⟩
  | .hbm, ⟨102, _⟩ => ⟨S8x1024x64, .f32⟩
  | .hbm, ⟨103, _⟩ => ⟨S8x1024x64, .f32⟩
  | .hbm, ⟨104, _⟩ => ⟨S1x64x64, .f32⟩
  | .hbm, ⟨105, _⟩ => ⟨S64x64, .f32⟩
  | .hbm, ⟨106, _⟩ => ⟨S8x1024x64, .f32⟩
  | .hbm, ⟨107, _⟩ => ⟨S8x1024x64, .f32⟩
  | .hbm, ⟨108, _⟩ => ⟨S8x64x1024, .f32⟩
  | .hbm, ⟨109, _⟩ => ⟨S8x1024x64, .f32⟩
  | .hbm, ⟨110, _⟩ => ⟨S_, .f32⟩
  | .hbm, ⟨111, _⟩ => ⟨S8x1024x64, .f32⟩
  | .hbm, ⟨112, _⟩ => ⟨S8x1024x64, .f32⟩
  | .hbm, ⟨113, _⟩ => ⟨S8x1024x64, .f32⟩
  | .hbm, ⟨114, _⟩ => ⟨S1x64x64, .f32⟩
  | .hbm, ⟨115, _⟩ => ⟨S64x64, .f32⟩
  | .hbm, ⟨116, _⟩ => ⟨S8x1024x64, .f32⟩
  | .hbm, ⟨117, _⟩ => ⟨S8x1024x64, .f32⟩
  | .hbm, ⟨118, _⟩ => ⟨S1x1x64, .f32⟩
  | .hbm, ⟨119, _⟩ => ⟨S8x1024x64, .f32⟩
  | .hbm, ⟨120, _⟩ => ⟨S8x1024x64, .f32⟩
  | .hbm, ⟨121, _⟩ => ⟨S_, .f32⟩
  | .hbm, ⟨122, _⟩ => ⟨S8x1024x64, .f32⟩
  | .hbm, ⟨123, _⟩ => ⟨S8x1024x64, .f32⟩
  | .hbm, ⟨124, _⟩ => ⟨S8x1024x1x64, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_4 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_call1_cst : Ref sig .tc := ⟨.hbm, 76, rfl⟩
abbrev main_call1_v0 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_6 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_7 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_cst_8 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_call2_cst : Ref sig .tc := ⟨.hbm, 121, rfl⟩
abbrev main_call2_v0 : Ref sig .tc := ⟨.hbm, 122, rfl⟩
abbrev main_v100 : Ref sig .tc := ⟨.hbm, 123, rfl⟩
abbrev main_v101 : Ref sig .tc := ⟨.hbm, 124, rfl⟩

abbrev nD : Nat := 1
abbrev τ : Topo := Topo.v7x

variable {F : FTy → Type} [FloatOps F]
-- ==== Proof.KernelTerm.lean ====
/-
  What the kernel's one block computes, named step by step: the normalised Laplacian, one Chebyshev step from the right,
  one projection by a pair-blocked weight, one whole layer — and the proof that the block the region writes is two layers.
-/
module

public import proofs.«01_k».proof.Proof.Gen.KernelIdeal.Frame
public import Idealize.ShloMosaic.Lib.Pipeline.Value

@[expose] public section

set_option maxRecDepth 16384

noncomputable section

open Idealize.ShloMosaic Idealize.ShloMosaic.TcCoe Idealize.SL.Sem

namespace Cert.KernelIdeal.Cheb

open Cert.KernelIdeal Cert.KernelIdeal.Gen

variable {F : FTy → Type} [FloatOps F]

/-- Features times the Laplacian, from the right: `t @ l`. -/
def mulL (l : FVec F S1024x1024 .f32) (t : FVec F S512x1024 .f32) : FVec F S512x1024 .f32 :=
  matmul dot_S512x1024_S1024x1024_S512x1024_1_0_0_1_n_n none t l (constant S512x1024 .f32 0x00000000#32)

/-- The Chebyshev recurrence: `2 (t @ l) - s`. -/
def step (l : FVec F S1024x1024 .f32) (t s : FVec F S512x1024 .f32) : FVec F S512x1024 .f32 :=
  subf (mulf (broadcast S512x1024 (Scalar.ofBits .f32 0x40000000#32)) (mulL l t)) s

/-- The rows of `t` in four groups of 128, each multiplied from the left by the one 128x128 weight `w`. -/
def proj (w : Vec F S1x128x128 .f32) (t : FVec F S512x1024 .f32) : FVec F S512x1024 .f32 :=
  concatenate S512x1024 0
    [⟨S128x1024, matmul dot_S128x128_S128x1024_S128x1024_1_0_0_1_n_n none (shapeCast S128x128 w shapeCasts_S1x128x128_S128x128)
        (extractStridedSlice S128x1024 ![0, 0] t slices_S512x1024_o0_0_S128x1024) (constant S128x1024 .f32 0x00000000#32)⟩,
     ⟨S128x1024, matmul dot_S128x128_S128x1024_S128x1024_1_0_0_1_n_n none (shapeCast S128x128 w shapeCasts_S1x128x128_S128x128)
        (extractStridedSlice S128x1024 ![128, 0] t slices_S512x1024_o128_0_S128x1024) (constant S128x1024 .f32 0x00000000#32)⟩,
     ⟨S128x1024, matmul dot_S128x128_S128x1024_S128x1024_1_0_0_1_n_n none (shapeCast S128x128 w shapeCasts_S1x128x128_S128x128)
        (extractStridedSlice S128x1024 ![256, 0] t slices_S512x1024_o256_0_S128x1024) (constant S128x1024 .f32 0x00000000#32)⟩,
     ⟨S128x1024, matmul dot_S128x128_S128x1024_S128x1024_1_0_0_1_n_n none (shapeCast S128x128 w shapeCasts_S1x128x128_S128x128)
        (extractStridedSlice S128x1024 ![384, 0] t slices_S512x1024_o384_0_S128x1024) (constant S128x1024 .f32 0x00000000#32)⟩]
    concatenates_S128x1024_S128x1024_S128x1024_S128x1024_S512x1024_d0

/-- The bias column added to every column, then the positive part. -/
def biasRelu (b : Vec F S512x1 .f32) (t : FVec F S512x1024 .f32) : FVec F S512x1024 .f32 :=
  maximumf (addf t (broadcastTo S512x1024 (shapeCast S512x1 b shapeCasts_S512x1_S512x1) broadcasts_S512x1_S512x1024))
    (broadcast S512x1024 (Scalar.ofBits .f32 0x00000000#32))

/-- One layer: five Chebyshev terms projected and summed, bias, positive part. -/
def layer (l : FVec F S1024x1024 .f32) (t0 : FVec F S512x1024 .f32) (w : Vec F S5x128x128 .f32) (b : Vec F S512x1 .f32) :
    FVec F S512x1024 .f32 :=
  biasRelu b (addf (addf (addf (addf
    (proj (View.ld w r0_2) t0)
    (proj (View.ld w r0_3) (mulL l t0)))
    (proj (View.ld w r0_4) (step l (mulL l t0) t0)))
    (proj (View.ld w r0_5) (step l (step l (mulL l t0) t0) (mulL l t0))))
    (proj (View.ld w r0_6) (step l (step l (step l (mulL l t0) t0) (mulL l t0)) (step l (mulL l t0) t0))))

/-- Both offsets of a whole two-axis rectangle are zero. -/
theorem hz : (![0, 0] : Fin 2 → Nat) = fun _ => 0 := funext fun a => by fin_cases a <;> rfl

section Payloads

variable (x0 : Vec F S1024x1024 .f32) (x1 : Vec F S512x1024 .f32) (l : FVec F S1024x1024 .f32) (t0 t1 t2 t3 a : FVec F S512x1024 .f32)
  (w w' : Vec F S1x128x128 .f32) (b : Vec F S512x1 .f32)

/-- A reshape to the same shape changes nothing. -/
theorem pay3_eq : k0_pay3 x1 = x1 := shapeCast_self ..

/-- The first layer's projection of its input. -/
theorem pay4_eq : k0_pay4 x1 w = proj w x1 := by unfold k0_pay4; rw [pay3_eq]; rfl

/-- The first layer's term of degree one. -/
theorem pay5_eq : k0_pay5 x0 x1 = mulL (k0_pay2 x0) x1 := by unfold k0_pay5; rw [pay3_eq]; rfl

/-- The first layer's term of degree two. -/
theorem pay8_eq : k0_pay8 l t0 t1 = step l t1 t0 := rfl

/-- The first layer's term of degree three. -/
theorem pay10_eq : k0_pay10 l t0 t1 = step l (step l t1 t0) t1 := rfl

/-- The first layer's sum up to degree two. -/
theorem pay9_eq : k0_pay9 l t0 a t1 (k0_pay6 w) (extractStridedSlice S128x1024 ![0, 0] t1 slices_S512x1024_o0_0_S128x1024) w'
    = addf (addf a (proj w t1)) (proj w' (step l t1 t0)) := rfl

/-- The first layer's result from its terms of degrees two and three. -/
theorem pay16_eq : k0_pay16 l t2 a (k0_pay10 l t0 t1) (k0_pay11 w) (k0_pay12 l t0 t1 w) (k0_pay13 l t0 t1 w) (k0_pay14 l t0 t1 w)
      (k0_pay15 l t0 t1) (constant S128x1024 .f32 0x00000000#32) w' b
    = biasRelu b (addf (addf a (proj w (k0_pay10 l t0 t1))) (proj w' (step l (k0_pay10 l t0 t1) t2))) := rfl

/-- The second layer's projection of the first layer's result. -/
theorem pay17_eq (v67 : FVec F S512x1024 .f32) (v69 : FVec F S128x128 .f32) (v71 v73 v75 v76 cst : FVec F S128x1024 .f32) :
    k0_pay17 l t2 a v67 v69 v71 v73 v75 v76 cst w b w' = proj w' (k0_pay16 l t2 a v67 v69 v71 v73 v75 v76 cst w b) := rfl

/-- The second layer's term of degree one. -/
theorem pay18_eq (v67 : FVec F S512x1024 .f32) (v69 : FVec F S128x128 .f32) (v71 v73 v75 v76 cst : FVec F S128x1024 .f32) :
    k0_pay18 l t2 a v67 v69 v71 v73 v75 v76 cst w b = mulL l (k0_pay16 l t2 a v67 v69 v71 v73 v75 v76 cst w b) := rfl

/-- The second layer's term of degree two. -/
theorem pay19_eq : k0_pay19 l t0 t1 = step l t1 t0 := rfl

/-- The second layer's sum up to degree two. -/
theorem pay20_eq : k0_pay20 l t0 a t1 w w' = addf (addf a (proj w t1)) (proj w' (step l t1 t0)) := rfl

/-- The second layer's term of degree three. -/
theorem pay21_eq : k0_pay21 l t0 t1 = step l (step l t1 t0) t1 := rfl

/-- The second layer's result from its terms of degrees two and three. -/
theorem pay1_eq : k0_pay1 l t2 a (k0_pay21 l t0 t1) (k0_pay22 w) (k0_pay23 l t0 t1 w) (k0_pay24 l t0 t1 w) (k0_pay25 l t0 t1)
      (constant S128x1024 .f32 0x00000000#32) w' b
    = biasRelu b (addf (addf a (proj w (k0_pay21 l t0 t1))) (proj w' (step l (k0_pay21 l t0 t1) t2))) := rfl

end Payloads

/-- The block the region writes is two layers over the kernel's own Laplacian of the graph block. -/
theorem out_eq (x0 : Vec F S1024x1024 .f32) (x1 : Vec F S512x1024 .f32) (x2 : Vec F S5x128x128 .f32) (x3 : Vec F S512x1 .f32)
    (x4 : Vec F S5x128x128 .f32) (x5 : Vec F S512x1 .f32) :
    out0_6 x0 x1 x2 x3 x4 x5
      = layer (k0_pay2 x0) (layer (k0_pay2 x0) x1 x2 x3) x4 x5 := by
  unfold out0_6
  rw [View.canon_unit_zero hz]
  unfold k0_pay39 k0_pay38 k0_pay37 k0_pay36 k0_pay35 k0_pay34 k0_pay33 k0_pay32 k0_pay31 k0_pay30 k0_pay29 k0_pay28 k0_pay27 k0_pay26
  simp only [View.ld_unit_zero (S := S1024x1024) hz, View.ld_unit_zero (S := S512x1024) hz, View.ld_unit_zero (S := S512x1) hz]
  rw [pay1_eq, pay17_eq, pay18_eq, pay16_eq, pay20_eq, pay21_eq, pay19_eq]
  unfold k0_pay7
  rw [pay9_eq, pay8_eq, pay10_eq, pay4_eq, pay5_eq, pay3_eq]
  rfl

end Cert.KernelIdeal.Cheb

end
-- ==== Proof.KernelRun.lean ====
/-
  What the kernel program's run leaves in its result array: the host operations before the region, the region's one block
  (the whole output array), and the host operations after it, read as one function of the six arguments.
-/
module

public import proofs.«01_k».proof.Proof.KernelTerm

@[expose] public section

set_option maxRecDepth 16384

noncomputable section

open Idealize.ShloMosaic Idealize.ShloMosaic.TcCoe Idealize.SL.Sem
open Idealize.ShloMosaic.Pipeline (Dat)

namespace Cert.KernelIdeal.Cheb

open Cert.KernelIdeal Cert.KernelIdeal.Gen

variable {F : FTy → Type} [FloatOps F]

/-- The input features, flattened over the last two axes and put channel-major: row `64 b + c` holds channel `c` of batch `b`. -/
def feats (x : FVec F S8x1024x16x4 .f32) : FVec F S512x1024 .f32 :=
  shapeCast S512x1024 (transpose S8x64x1024 [0, 2, 1] (shapeCast S8x1024x64 x shapeCasts_S8x1024x16x4_S8x1024x64)
    transposes_S8x1024x64_S8x64x1024_0_2_1) shapeCasts_S8x64x1024_S512x1024

/-- A bias repeated for the eight batches, as a column. -/
def biasCol (b : FVec F S64 .f32) : FVec F S512x1 .f32 :=
  shapeCast S512x1 (shapeCast S512 (broadcastInDim S8x64 ![0, 1] bcast_S1x64_S8x64_0_1 (shapeCast S1x64 b shapeCasts_S64_S1x64))
    shapeCasts_S8x64_S512) shapeCasts_S512_S512x1

/-- A 64x64 array of zeros for each of the five weights. -/
def zeros : FVec F S5x64x64 .f32 := broadcastInDim S5x64x64 ![] bcast_S_S5x64x64 (constant S_ .f32 0x00000000#32)

/-- Each transposed weight twice on the diagonal of a 128x128 block, zero off it. -/
def blockW (w : FVec F S5x64x64 .f32) : FVec F S5x128x128 .f32 :=
  concatenate S5x128x128 1
    [⟨S5x64x128, concatenate S5x64x128 2 [⟨S5x64x64, transpose S5x64x64 [0, 2, 1] w transposes_S5x64x64_S5x64x64_0_2_1⟩, ⟨S5x64x64, zeros⟩]
        concatenates_S5x64x64_S5x64x64_S5x64x128_d2⟩,
     ⟨S5x64x128, concatenate S5x64x128 2 [⟨S5x64x64, zeros⟩, ⟨S5x64x64, transpose S5x64x64 [0, 2, 1] w transposes_S5x64x64_S5x64x64_0_2_1⟩]
        concatenates_S5x64x64_S5x64x64_S5x64x128_d2⟩]
    concatenates_S5x64x128_S5x64x128_S5x128x128_d1

/-- The region's output put back node-major, with the unit axis the result carries. -/
def back (y : FVec F S512x1024 .f32) : FVec F S8x1024x1x64 .f32 :=
  shapeCast S8x1024x1x64 (transpose S8x1024x64 [0, 2, 1] (shapeCast S8x64x1024 y shapeCasts_S512x1024_S8x64x1024)
    transposes_S8x64x1024_S8x1024x64_0_2_1) shapeCasts_S8x1024x64_S8x1024x1x64

/-- The whole kernel program as one function of its arguments. -/
def result (g : FVec F S1024x1024 .f32) (x : FVec F S8x1024x16x4 .f32) (w1 : FVec F S5x64x64 .f32) (b1 : FVec F S64 .f32)
    (w2 : FVec F S5x64x64 .f32) (b2 : FVec F S64 .f32) : FVec F S8x1024x1x64 .f32 :=
  back (layer (k0_pay2 g) (layer (k0_pay2 g) (feats x) (blockW w1) (biasCol b1)) (blockW w2) (biasCol b2))

variable (m : (ℓ : Loc nD τ sig) → Buf (Elt F) ℓ) (ρ : Dev nD → PrngReg)

/-- The features as the region finds them. -/
theorem V_feats (c : Dev nD) : V m c main_v2 = feats (m ((c : Thread nD τ).loc main_arg1)) := by
  show StableHlo.after hostOps0 (fun b => m (c, b)) (Proc.devRef .tc main_v2) = _
  after_results; rfl

/-- The first bias column as the region finds it. -/
theorem V_bias1 (c : Dev nD) : V m c main_v6 = biasCol (m ((c : Thread nD τ).loc main_arg3)) := by
  show StableHlo.after hostOps0 (fun b => m (c, b)) (Proc.devRef .tc main_v6) = _
  after_results; rfl

/-- The second bias column as the region finds it. -/
theorem V_bias2 (c : Dev nD) : V m c main_v10 = biasCol (m ((c : Thread nD τ).loc main_arg5)) := by
  show StableHlo.after hostOps0 (fun b => m (c, b)) (Proc.devRef .tc main_v10) = _
  after_results; rfl

/-- The first blocked weights as the region finds them. -/
theorem V_w1 (c : Dev nD) : V m c main_v15 = blockW (m ((c : Thread nD τ).loc main_arg2)) := by
  show StableHlo.after hostOps0 (fun b => m (c, b)) (Proc.devRef .tc main_v15) = _
  after_results; rfl

/-- The second blocked weights as the region finds them. -/
theorem V_w2 (c : Dev nD) : V m c main_v20 = blockW (m ((c : Thread nD τ).loc main_arg4)) := by
  show StableHlo.after hostOps0 (fun b => m (c, b)) (Proc.devRef .tc main_v20) = _
  after_results; rfl

/-- The region's whole output array. -/
abbrev region (c : Dev nD) : Buf (Elt F) ((c : Thread nD τ).loc main_v21) :=
  layer (k0_pay2 (m ((c : Thread nD τ).loc main_arg0)))
    (layer (k0_pay2 (m ((c : Thread nD τ).loc main_arg0))) (feats (m ((c : Thread nD τ).loc main_arg1)))
      (blockW (m ((c : Thread nD τ).loc main_arg2))) (biasCol (m ((c : Thread nD τ).loc main_arg3))))
    (blockW (m ((c : Thread nD τ).loc main_arg4))) (biasCol (m ((c : Thread nD τ).loc main_arg5)))

/-- The graph window's one block is the whole graph. -/
theorem iblk0 (c : Dev nD) (t : Fin cfg0.N) : iblk m c 0 t = m ((c : Thread nD τ).loc main_arg0) :=
  (funext fun y => congrArg (V m c main_arg0) (funext fun a => Fin.ext (Pipeline.Window.rect_emb_val_of_index_zero win0_0 t a rfl y))).trans
    (V_main_arg0 m c)
/-- The features window's one block is its whole array. -/
theorem iblk1 (c : Dev nD) (t : Fin cfg0.N) : iblk m c 1 t = feats (m ((c : Thread nD τ).loc main_arg1)) :=
  (funext fun y => congrArg (V m c main_v2) (funext fun a => Fin.ext (Pipeline.Window.rect_emb_val_of_index_zero win0_1 t a rfl y))).trans
    (V_feats m c)
/-- The first weights window's one block is its whole array. -/
theorem iblk2 (c : Dev nD) (t : Fin cfg0.N) : iblk m c 2 t = blockW (m ((c : Thread nD τ).loc main_arg2)) :=
  (funext fun y => congrArg (V m c main_v15) (funext fun a => Fin.ext (Pipeline.Window.rect_emb_val_of_index_zero win0_2 t a rfl y))).trans
    (V_w1 m c)
/-- The first bias window's one block is its whole array. -/
theorem iblk3 (c : Dev nD) (t : Fin cfg0.N) : iblk m c 3 t = biasCol (m ((c : Thread nD τ).loc main_arg3)) :=
  (funext fun y => congrArg (V m c main_v6) (funext fun a => Fin.ext (Pipeline.Window.rect_emb_val_of_index_zero win0_3 t a rfl y))).trans
    (V_bias1 m c)
/-- The second weights window's one block is its whole array. -/
theorem iblk4 (c : Dev nD) (t : Fin cfg0.N) : iblk m c 4 t = blockW (m ((c : Thread nD τ).loc main_arg4)) :=
  (funext fun y => congrArg (V m c main_v20) (funext fun a => Fin.ext (Pipeline.Window.rect_emb_val_of_index_zero win0_4 t a rfl y))).trans
    (V_w2 m c)
/-- The second bias window's one block is its whole array. -/
theorem iblk5 (c : Dev nD) (t : Fin cfg0.N) : iblk m c 5 t = biasCol (m ((c : Thread nD τ).loc main_arg5)) :=
  (funext fun y => congrArg (V m c main_v10) (funext fun a => Fin.ext (Pipeline.Window.rect_emb_val_of_index_zero win0_5 t a rfl y))).trans
    (V_bias2 m c)

/-- What the one point writes back is the one block of the two layers. -/
theorem flushed_eq (c : Dev nD) (t : Fin cfg0.N) :
    (dats m 0 c).flushed 6 t = ((cfg0.win 6).blk t).view.read (Elt F) (region m c) := by
  show (cfg0.win 6).cut (grid0.coords t) ((dats m 0 c).after 6 t) = _
  rw [after0_6, iblk0, iblk1, iblk2, iblk3, iblk4, iblk5, out_eq]
  exact funext fun y => congrArg (region m c) (funext fun a => Fin.ext (Pipeline.Window.rect_emb_val_of_index_zero win0_6 t a rfl y).symm)

/-- The one block holds every index of the output array. -/
theorem cover (i : S512x1024.Idx) :
    ∃ t : Fin cfg0.N, (cfg0.win 6).flush t = true ∧ i ∈ ((cfg0.win 6).blk t).view.set := by
  refine ⟨t0_0, flush0_6 _, ?_⟩
  have e : ((cfg0.win 6).blk t0_0).view.emb i = i :=
    funext fun a => Fin.ext (Pipeline.Window.rect_emb_val_of_index_zero win0_6 t0_0 a rfl i)
  exact e ▸ View.emb_mem_set _ i

/-- So the region's output array ends holding the two layers. -/
theorem final (c : Dev nD) : (dats m 0 c).arrAt 6 cfg0.N = region m c :=
  (dats m 0 c).arrAt_eq_of_cover 6 (region m c) (fun t _ => flushed_eq m c t) cover

/-- The host operations after the region put the output back node-major. -/
theorem tail (c : Dev nD) : Pipeline.afterTail₀ cfgs (dats m) 0 (V0 m) [hostOps1] c main_v24
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  unfold Pipeline.afterTail₀
  show StableHlo.after hostOps1 _ (Proc.devRef .tc main_v24) = _
  after_results
  rw [show Pipeline.withArrays (cfgs 0).spec c (V0 m c) (fun w => (dats m 0 c).arrAt w (cfgs 0).N) (Proc.devRef .tc main_v21) = region m c from
    (Pipeline.withArrays_arr spec0 (by decide) c (V0 m c) (fun w => (dats m 0 c).arrAt w cfg0.N) 6).trans (final m c)]
  rfl

/-- The kernel program's run, read: the result array holds `result` of the arguments, which end unchanged. -/
theorem run : θ_run defs (onTc (τ := τ) (main (F := F))) ⟨m, fun _ => 0, ρ⟩ fun r => ∀ c : Dev nD,
      r.2.mem ((c.tc : Thread nD τ).loc main_v24)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v24 (Pipeline.mem_restRefs_of main_v24 (by decide) (by decide))).trans (tail m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Cheb

end
-- ==== Proof.RefTerm.lean ====
/-
  What the reference computes, named step by step: the normalised Laplacian, the product with it, one projection by a
  weight, one whole layer — and the proof that the reference's run leaves two layers in its result array.
-/
module

public import proofs.«01_k».proof.Proof.Gen.ReferenceIdeal.Run

@[expose] public section

set_option maxRecDepth 16384

noncomputable section

open Idealize.ShloMosaic Idealize.ShloMosaic.TcCoe Idealize.SL.Sem
open Idealize.ShloMosaic.StableHlo (launchContents)

namespace Cert.ReferenceIdeal.Cheb

open Cert.ReferenceIdeal Cert.ReferenceIdeal.Gen Cert.ReferenceIdeal.Value

variable {F : FTy → Type} [FloatOps F]

/-- The row sums of the graph. -/
def degree (g : FVec F S1024x1024 .f32) : FVec F S1024 .f32 :=
  Host.reduceAdd g (constant S_ .f32 0x00000000#32) reducesTo_S1024x1024_S1024_d1 h_S_

/-- The reciprocal square root of each row sum, zero where the sum is not positive. -/
def scale (g : FVec F S1024x1024 .f32) : FVec F S1024 .f32 :=
  select (cmpf .ogt (degree g) (broadcastInDim S1024 ![] bcast_S_S1024 (constant S_ .f32 0x00000000#32)))
    (Host.divf (broadcastInDim S1024 ![] bcast_S_S1024 (constant S_ .f32 0x3F800000#32)) (Host.sqrt (degree g)))
    (broadcastInDim S1024 ![] bcast_S_S1024 (id (constant S_ .f32 0x00000000#32)))

/-- The identity matrix less the scaled graph. -/
def lap (g : FVec F S1024x1024 .f32) : FVec F S1024x1024 .f32 :=
  subf (uitofp .f32 (cmpi .eq (addi (iotaInDim S1024x1024 32 0) (broadcastInDim S1024x1024 ![] bcast_S_S1024x1024 (constantI S_ 32 0#32)))
      (iotaInDim S1024x1024 32 1)))
    (mulf (mulf (broadcastInDim S1024x1024 ![0, 1] bcast_S1024x1_S1024x1024_0_1 (broadcastInDim S1024x1 ![0] bcast_S1024_S1024x1_0 (scale g))) g)
      (broadcastInDim S1024x1024 ![0, 1] bcast_S1x1024_S1024x1024_0_1 (broadcastInDim S1x1024 ![1] bcast_S1024_S1x1024_1 (scale g))))

/-- The Laplacian applied to the node axis of every batch. -/
def mulL (l : FVec F S1024x1024 .f32) (t : FVec F S8x1024x64 .f32) : FVec F S8x1024x64 .f32 :=
  transpose S8x1024x64 [0, 2, 1] (Host.dotGeneral dot_S8x1024x64_S1024x1024_S8x64x1024_1_1_02_0_n_n none t l)
    transposes_S8x64x1024_S8x1024x64_0_2_1

/-- The Chebyshev recurrence: twice the Laplacian of `t`, less `s`. -/
def step (l : FVec F S1024x1024 .f32) (t s : FVec F S8x1024x64 .f32) : FVec F S8x1024x64 .f32 :=
  subf (mulf (broadcastInDim S8x1024x64 ![] bcast_S_S8x1024x64 (constant S_ .f32 0x40000000#32)) (mulL l t)) s

/-- The channel axis multiplied by one weight. -/
def proj (w : FVec F S1x64x64 .f32) (t : FVec F S8x1024x64 .f32) : FVec F S8x1024x64 .f32 :=
  Host.dotGeneral dot_S8x1024x64_S64x64_S8x1024x64_2_0_01_1_n_n none t (shapeCast S64x64 w shapeCasts_S1x64x64_S64x64)

/-- The bias added along the channel axis, then the positive part. -/
def biasRelu (b : FVec F S64 .f32) (t : FVec F S8x1024x64 .f32) : FVec F S8x1024x64 .f32 :=
  maximumf (addf t (broadcastInDim S8x1024x64 ![0, 1, 2] bcast_S1x1x64_S8x1024x64_0_1_2 (broadcastInDim S1x1x64 ![2] bcast_S64_S1x1x64_2 b)))
    (broadcastInDim S8x1024x64 ![] bcast_S_S8x1024x64 (constant S_ .f32 0x00000000#32))

/-- One layer: five Chebyshev terms projected and summed, bias, positive part. -/
def layer (l : FVec F S1024x1024 .f32) (t0 : FVec F S8x1024x64 .f32) (w : FVec F S5x64x64 .f32) (b : FVec F S64 .f32) :
    FVec F S8x1024x64 .f32 :=
  biasRelu b (addf (addf (addf (addf
    (proj (extractStridedSlice S1x64x64 ![0, 0, 0] w slices_S5x64x64_S1x64x64_0_0_0) t0)
    (proj (extractStridedSlice S1x64x64 ![1, 0, 0] w slices_S5x64x64_S1x64x64_1_0_0) (mulL l t0)))
    (proj (extractStridedSlice S1x64x64 ![2, 0, 0] w slices_S5x64x64_S1x64x64_2_0_0) (step l (mulL l t0) t0)))
    (proj (extractStridedSlice S1x64x64 ![3, 0, 0] w slices_S5x64x64_S1x64x64_3_0_0) (step l (step l (mulL l t0) t0) (mulL l t0))))
    (proj (extractStridedSlice S1x64x64 ![4, 0, 0] w slices_S5x64x64_S1x64x64_4_0_0)
      (step l (step l (step l (mulL l t0) t0) (mulL l t0)) (step l (mulL l t0) t0))))

/-- The input with its last two axes flattened. -/
def feats (x : FVec F S8x1024x16x4 .f32) : FVec F S8x1024x64 .f32 := shapeCast S8x1024x64 x shapeCasts_S8x1024x16x4_S8x1024x64

/-- The result with its unit axis. -/
def back (y : FVec F S8x1024x64 .f32) : FVec F S8x1024x1x64 .f32 := broadcastInDim S8x1024x1x64 ![0, 1, 3] bcast_S8x1024x64_S8x1024x1x64_0_1_3 y

/-- The whole reference as one function of its arguments. -/
def result (g : FVec F S1024x1024 .f32) (x : FVec F S8x1024x16x4 .f32) (w1 : FVec F S5x64x64 .f32) (b1 : FVec F S64 .f32)
    (w2 : FVec F S5x64x64 .f32) (b2 : FVec F S64 .f32) : FVec F S8x1024x1x64 .f32 :=
  back (layer (lap g) (layer (lap g) (feats x) w1 b1) w2 b2)

section Terms

variable (V0 : Valuation τ sig (Elt F))

/-- The input as the first layer reads it. -/
theorem v0_eq : res_main_v0 V0 = feats (V0 (Proc.devRef .tc main_arg1)) := rfl

/-- The Laplacian both layers read. -/
theorem v20_eq : res_main_v20 V0 = lap (V0 (Proc.devRef .tc main_arg0)) := rfl

/-- The first layer's term of degree one. -/
theorem v25_eq : res_main_v25 V0 = mulL (res_main_v20 V0) (res_main_v0 V0) := rfl
/-- The first layer's term of degree two. -/
theorem v34_eq : res_main_v34 V0 = step (res_main_v20 V0) (res_main_v25 V0) (res_main_v0 V0) := rfl
/-- The first layer's term of degree three. -/
theorem v43_eq : res_main_v43 V0 = step (res_main_v20 V0) (res_main_v34 V0) (res_main_v25 V0) := rfl

/-- The first layer's result. -/
theorem v60_eq : res_main_v60 V0 = layer (res_main_v20 V0) (res_main_v0 V0) (V0 (Proc.devRef .tc main_arg2)) (V0 (Proc.devRef .tc main_arg3)) := by
  unfold res_main_v60 layer
  rw [v43_eq, v34_eq, v25_eq]
  rfl

/-- The second layer's term of degree one. -/
theorem v65_eq : res_main_v65 V0 = mulL (res_main_v20 V0) (res_main_v60 V0) := rfl
/-- The second layer's term of degree two. -/
theorem v74_eq : res_main_v74 V0 = step (res_main_v20 V0) (res_main_v65 V0) (res_main_v60 V0) := rfl
/-- The second layer's term of degree three. -/
theorem v83_eq : res_main_v83 V0 = step (res_main_v20 V0) (res_main_v74 V0) (res_main_v65 V0) := rfl

end Terms

variable (m : (ℓ : Loc nD τ sig) → Buf (Elt F) ℓ) (ρ : Dev nD → PrngReg)

/-- The reference's run, read: the result array holds `result` of the arguments, which end unchanged. -/
theorem run : θ_run defs (onTc (τ := τ) (main (F := F))) ⟨m, fun _ => 0, ρ⟩ fun r => ∀ c : Dev nD,
      r.2.mem ((c.tc : Thread nD τ).loc main_v101)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans ?_, (h c).2⟩) (Value.run m ρ)
  rw [v83_eq, v74_eq, v65_eq, v60_eq, v20_eq, v0_eq]
  rfl

end Cert.ReferenceIdeal.Cheb

end
-- ==== Proof.Laplacian.lean ====
/-
  The two normalised Laplacians are one matrix at the exact instance, and of a symmetric graph it is symmetric.
-/
module

public import proofs.«01_k».proof.Proof.KernelTerm
public import proofs.«01_k».proof.Proof.RefTerm
public import Idealize.ShloMosaic.Lib.Pointwise

@[expose] public section

set_option maxRecDepth 16384

noncomputable section

open Idealize.ShloMosaic

namespace Cert.Cheb

open Cert.KernelIdeal

/-- A truth value read as a number is the choice of one or zero. -/
theorem uitofp_bit (c : BitVec 1) : (FloatOps.uitofp .f32 c : Ideal .f32) = Scalar.select c 1 0 := by
  show ((c.toNat : ℝ) : EReal) = if c = 1 then 1 else 0
  rcases BitVec.eq_zero_or_eq_one c with rfl | rfl <;> simp

/-- The kernel's normalised Laplacian is the reference's. -/
theorem lap_eq (g : FVec Ideal S1024x1024 .f32) (n k : Fin 1024) :
    KernelIdeal.Gen.k0_pay2 (F := Ideal) g (ix2 n k) = ReferenceIdeal.Cheb.lap (F := Ideal) g (ix2 n k) := by
  pointwise [KernelIdeal.Gen.k0_pay2, ReferenceIdeal.Cheb.lap, ReferenceIdeal.Cheb.scale, ReferenceIdeal.Cheb.degree]
  have hz : id (constant (F := Ideal) ReferenceIdeal.S_ FTy.f32 0#32) ix0 = 0 := Ideal.ofBits_zero_f32
  have ha : IntOp.addi (BitVec.ofNat 32 n) 0#32 = BitVec.ofNat 32 n := BitVec.add_zero _
  rw [hz, ha, uitofp_bit]

/-- Of a symmetric graph it is symmetric. -/
theorem lap_symm (g : FVec Ideal S1024x1024 .f32) (hg : ∀ n k : Fin 1024, g (ix2 n k) = g (ix2 k n)) (n k : Fin 1024) :
    ReferenceIdeal.Cheb.lap (F := Ideal) g (ix2 n k) = ReferenceIdeal.Cheb.lap (F := Ideal) g (ix2 k n) := by
  pointwise [ReferenceIdeal.Cheb.lap]
  have ha (i : Fin 1024) : IntOp.addi (BitVec.ofNat 32 i) 0#32 = BitVec.ofNat 32 i := BitVec.add_zero _
  have he : IntOp.cmpi .eq (BitVec.ofNat 32 n) (BitVec.ofNat 32 k) = IntOp.cmpi .eq (BitVec.ofNat 32 k) (BitVec.ofNat 32 n) :=
    congrArg BitVec.ofBool BEq.comm
  rw [ha, ha, he, hg n k, mul_comm (ReferenceIdeal.Cheb.scale g (ix1 n)), mul_comm (_ * _), ← mul_assoc,
    mul_comm (ReferenceIdeal.Cheb.scale g (ix1 k))]

end Cert.Cheb

end
-- ==== Proof.Steps.lean ====
/-
  One step of the kernel against one step of the reference. The kernel keeps an array of features channel-major and
  flattened (row `64 b + c`, column `n`), the reference node-major (`b, n, c`): `Rel` says the two hold the same numbers, and
  every step of a layer takes related arrays to related arrays.
-/
module

public import proofs.«01_k».proof.Proof.KernelRun
public import proofs.«01_k».proof.Proof.RefTerm
public import Idealize.ShloMosaic.Lib.Pointwise

@[expose] public section

set_option maxRecDepth 16384

noncomputable section

open Idealize.ShloMosaic

namespace Cert.Cheb

open Cert.KernelIdeal

/-- The kernel's row for channel `c` of batch `b`. -/
def row (b : Fin 8) (c : Fin 64) : Fin 512 := ⟨b * 64 + c, by omega⟩

/-- That row as a number. -/
theorem row_val (b : Fin 8) (c : Fin 64) : (row b c : Nat) = b * 64 + c := rfl

/-- A kernel array and a reference array hold the same features. -/
def Rel (y : FVec Ideal S512x1024 .f32) (x : FVec Ideal S8x1024x64 .f32) : Prop :=
  ∀ (b : Fin 8) (n : Fin 1024) (c : Fin 64), y (ix2 (row b c) n) = x (ix3 b n c)

variable {y y' : FVec Ideal S512x1024 .f32} {x x' : FVec Ideal S8x1024x64 .f32}

/-- Sums of related arrays are related. -/
theorem Rel.add (h : Rel y x) (h' : Rel y' x') : Rel (addf y y') (addf x x') := fun b n c => by
  pointwise; rw [h b n c, h' b n c]

/-- The Laplacian from the right is the Laplacian from the left when it is symmetric. -/
theorem Rel.mulL {l l' : FVec Ideal S1024x1024 .f32} (hl : ∀ n k : Fin 1024, l (ix2 n k) = l' (ix2 k n)) (h : Rel y x) :
    Rel (KernelIdeal.Cheb.mulL l y) (ReferenceIdeal.Cheb.mulL l' x) := fun b n c => by
  pointwise [KernelIdeal.Cheb.mulL, ReferenceIdeal.Cheb.mulL]
  exact Finset.sum_congr rfl fun k _ => by rw [h b k c, hl k n]

/-- One step of the recurrence. -/
theorem Rel.step {l l' : FVec Ideal S1024x1024 .f32} (hl : ∀ n k : Fin 1024, l (ix2 n k) = l' (ix2 k n)) (h : Rel y x) (h' : Rel y' x') :
    Rel (KernelIdeal.Cheb.step l y y') (ReferenceIdeal.Cheb.step l' x x') := fun b n c => by
  pointwise [KernelIdeal.Cheb.step, ReferenceIdeal.Cheb.step]
  rw [h.mulL hl b n c, h' b n c]

/-- The bias and the positive part. -/
theorem Rel.biasRelu (v : FVec Ideal S64 .f32) (h : Rel y x) :
    Rel (KernelIdeal.Cheb.biasRelu (KernelIdeal.Cheb.biasCol v) y) (ReferenceIdeal.Cheb.biasRelu v x) := fun b n c => by
  pointwise [KernelIdeal.Cheb.biasRelu, ReferenceIdeal.Cheb.biasRelu, KernelIdeal.Cheb.biasCol]
  have e : (⟨(row b c : Nat) % 64, by omega⟩ : Fin 64) = c := Fin.ext (by have := row_val b c; simp only; omega)
  rw [h b n c, e]

/-- The input features. -/
theorem feats_rel (z : FVec Ideal S8x1024x16x4 .f32) : Rel (KernelIdeal.Cheb.feats z) (ReferenceIdeal.Cheb.feats z) := fun b n c => by
  pointwise [KernelIdeal.Cheb.feats, ReferenceIdeal.Cheb.feats]
  have e : (row b c : Nat) % 64 = c := by have := row_val b c; omega
  have e' : (row b c : Nat) / 64 = b := by have := row_val b c; omega
  simp only [e, e', Fin.eta]

/-- The result's layout. -/
theorem Rel.back (h : Rel y x) : KernelIdeal.Cheb.back y = ReferenceIdeal.Cheb.back x := by
  funext j
  idx_vars j
  pointwise [KernelIdeal.Cheb.back, ReferenceIdeal.Cheb.back]
  exact h ..

end Cert.Cheb

end
-- ==== Proof.Projection.lean ====
/-
  The projection: the kernel multiplies 128 rows (two batches) at a time by a 128x128 block that holds the transposed weight
  twice on its diagonal and zeros off it; a product with one of those zeros is zero, so each row gets its own batch's sum.
-/
module

public import proofs.«01_k».proof.Proof.Steps

@[expose] public section

set_option maxRecDepth 16384

noncomputable section

open Idealize.ShloMosaic

namespace Cert.Cheb

open Cert.KernelIdeal

/-- A row's coordinate within its group of 128. -/
def sub (b : Fin 8) (c : Fin 64) : Fin 128 := ⟨b % 2 * 64 + c, by omega⟩

/-- The kernel's projection at a row: the row's group of 128 against the weight's row. -/
theorem proj_apply (w : Vec Ideal S1x128x128 .f32) (y : FVec Ideal S512x1024 .f32) (b : Fin 8) (n : Fin 1024) (c : Fin 64) :
    KernelIdeal.Cheb.proj w y (ix2 (row b c) n)
      = ∑ k : Fin 128, w (ix3 0 (sub b c) k) * y (ix2 ⟨b / 2 * 128 + k, by omega⟩ n) := by
  pointwise [KernelIdeal.Cheb.proj]
  have hr := row_val b c
  split_ifs
  all_goals
    refine Finset.sum_congr rfl fun k _ => ?_
    congr 3 <;> exact Fin.ext (by simp only [sub]; omega)

/-- The block weight at an entry: the transposed weight where both coordinates are of the same batch, zero elsewhere. -/
theorem blockW_apply (w : FVec Ideal S5x64x64 .f32) (k : Fin 5) (i j : Fin 128) :
    KernelIdeal.Cheb.blockW w (ix3 k i j)
      = if (i : Nat) / 64 = j / 64 then w (ix3 k ⟨j % 64, by omega⟩ ⟨i % 64, by omega⟩) else 0 := by
  pointwise [KernelIdeal.Cheb.blockW, KernelIdeal.Cheb.zeros]
  have hw (a b c d : Fin 64) (h : (a : Nat) = b) (h' : (c : Nat) = d) : w (ix3 k a c) = w (ix3 k b d) := by
    rw [Fin.ext h, Fin.ext h']
  by_cases hi : (i : Nat) < 64 <;> by_cases hj : (j : Nat) < 64
  · exact ((dif_pos hi).trans (dif_pos hj)).trans ((hw _ _ _ _ (by simp only; omega) (by simp only; omega)).trans (if_pos (by omega)).symm)
  · exact ((dif_pos hi).trans (dif_neg hj)).trans (if_neg (by omega)).symm
  · exact ((dif_neg hi).trans (dif_pos hj)).trans (if_neg (by omega)).symm
  · exact ((dif_neg hi).trans (dif_neg hj)).trans ((hw _ _ _ _ (by simp only; omega) (by simp only; omega)).trans (if_pos (by omega)).symm)

/-- The row's sum against the block weight is the sum over its own batch's channels. -/
theorem sum_blockW (w : FVec Ideal S5x64x64 .f32) (k : Fin 5) (y : FVec Ideal S512x1024 .f32) (b : Fin 8) (n : Fin 1024)
    (c : Fin 64) :
    ∑ q : Fin 128, KernelIdeal.Cheb.blockW w (ix3 k (sub b c) q) * y (ix2 ⟨b / 2 * 128 + q, by omega⟩ n)
      = ∑ q : Fin 64, w (ix3 k q c) * y (ix2 (row b q) n) := by
  have hs : (sub b c : Nat) = b % 2 * 64 + c := rfl
  rw [Fin.sum_univ_two_halves 64 64 rfl]
  have hc : (⟨(sub b c : Nat) % 64, by omega⟩ : Fin 64) = c := Fin.ext (by simp only; omega)
  rcases Nat.mod_two_eq_zero_or_one b with hb | hb
  · rw [Finset.sum_eq_zero (s := Finset.univ (α := Fin 64)) (f := fun q => KernelIdeal.Cheb.blockW w (ix3 k (sub b c) ⟨64 + q, _⟩) * _)
      fun q _ => by rw [blockW_apply, if_neg (by simp only; omega), zero_mul], add_zero]
    refine Finset.sum_congr rfl fun q _ => ?_
    rw [blockW_apply, if_pos (by simp only; omega), hc]
    congr 3 <;> exact Fin.ext (by simp only [row]; omega)
  · rw [Finset.sum_eq_zero (s := Finset.univ (α := Fin 64)) (f := fun q => KernelIdeal.Cheb.blockW w (ix3 k (sub b c) ⟨q, _⟩) * _)
      fun q _ => by rw [blockW_apply, if_neg (by simp only; omega), zero_mul], zero_add]
    refine Finset.sum_congr rfl fun q _ => ?_
    rw [blockW_apply, if_pos (by simp only; omega), hc]
    congr 3 <;> exact Fin.ext (by simp only [row]; omega)

variable {y : FVec Ideal S512x1024 .f32} {x : FVec Ideal S8x1024x64 .f32}

/-- Projections by the same weight are related: `wk` is the kernel's slice `k` of the block weight, `wr` the reference's. -/
theorem Rel.proj (h : Rel y x) (w : FVec Ideal S5x64x64 .f32) (k : Fin 5) {wk : Vec Ideal S1x128x128 .f32}
    {wr : FVec Ideal ReferenceIdeal.S1x64x64 .f32} (hk : ∀ i j : Fin 128, wk (ix3 0 i j) = KernelIdeal.Cheb.blockW w (ix3 k i j))
    (hr : ∀ i j : Fin 64, wr (ix3 0 i j) = w (ix3 k i j)) :
    Rel (KernelIdeal.Cheb.proj wk y) (ReferenceIdeal.Cheb.proj wr x) := fun b n c => by
  rw [proj_apply]
  simp only [hk]
  rw [sum_blockW]
  pointwise [ReferenceIdeal.Cheb.proj]
  exact Finset.sum_congr rfl fun q _ => by rw [h b n q, hr, mul_comm]

end Cert.Cheb

end
-- ==== Proof.Equation.lean ====
/-
  The equation: with a symmetric graph, layer by layer the kernel's array and the reference's hold the same features, so the two
  results are equal.
-/
module

public import proofs.«01_k».proof.Proof.Laplacian
public import proofs.«01_k».proof.Proof.Projection
public import proofs.«01_k».proof.Proof.Gen.Pre_symmetric

@[expose] public section

set_option maxRecDepth 16384

noncomputable section

open Idealize.ShloMosaic

namespace Cert.Cheb

open Cert.KernelIdeal

variable {y : FVec Ideal S512x1024 .f32} {x : FVec Ideal S8x1024x64 .f32}

/-- One layer takes related features to related features. -/
theorem Rel.layer {l l' : FVec Ideal S1024x1024 .f32} (hl : ∀ n k : Fin 1024, l (ix2 n k) = l' (ix2 k n)) (h : Rel y x)
    (w : FVec Ideal S5x64x64 .f32) (v : FVec Ideal S64 .f32) :
    Rel (KernelIdeal.Cheb.layer l y (KernelIdeal.Cheb.blockW w) (KernelIdeal.Cheb.biasCol v)) (ReferenceIdeal.Cheb.layer l' x w v) := by
  have h1 := h.mulL hl
  have h2 := h1.step hl h
  have h3 := h2.step hl h1
  have h4 := h3.step hl h2
  exact (((((h.proj w 0 (fun i j => by pointwise) (fun i j => by pointwise)).add
    (h1.proj w 1 (fun i j => by pointwise) (fun i j => by pointwise))).add
    (h2.proj w 2 (fun i j => by pointwise) (fun i j => by pointwise))).add
    (h3.proj w 3 (fun i j => by pointwise) (fun i j => by pointwise))).add
    (h4.proj w 4 (fun i j => by pointwise) (fun i j => by pointwise))).biasRelu v

/-- The kernel's result is the reference's when the graph is symmetric. -/
theorem result_eq (g : FVec Ideal S1024x1024 .f32) (z : FVec Ideal S8x1024x16x4 .f32) (w1 : FVec Ideal S5x64x64 .f32)
    (b1 : FVec Ideal S64 .f32) (w2 : FVec Ideal S5x64x64 .f32) (b2 : FVec Ideal S64 .f32)
    (hg : ∀ n k : Fin 1024, g (ix2 n k) = g (ix2 k n)) :
    KernelIdeal.Cheb.result g z w1 b1 w2 b2 = ReferenceIdeal.Cheb.result g z w1 b1 w2 b2 := by
  have hl (n k : Fin 1024) : KernelIdeal.Gen.k0_pay2 (F := Ideal) g (ix2 n k) = ReferenceIdeal.Cheb.lap (F := Ideal) g (ix2 k n) :=
    (lap_eq g n k).trans (lap_symm g hg n k)
  exact (((feats_rel z).layer hl w1 b1).layer hl w2 b2).back

/-- The precondition says that the graph is its own transpose. -/
theorem symmetric_apply (g : FVec Ideal S1024x1024 .f32) (z : FVec Ideal S8x1024x16x4 .f32) (w1 : FVec Ideal S5x64x64 .f32)
    (b1 : FVec Ideal S64 .f32) (w2 : FVec Ideal S5x64x64 .f32) (b2 : FVec Ideal S64 .f32)
    (h : Pre_symmetric.fn (F := Ideal) g z w1 b1 w2 b2 = fun _ => 1#1) (n k : Fin 1024) : g (ix2 n k) = g (ix2 k n) := by
  have e := congrFun h (ix2 n k)
  pointwise [Pre_symmetric.fn] at e
  by_contra hne
  rw [decide_eq_false hne] at e
  exact absurd e (by decide)

end Cert.Cheb

end
-- ==== Proof.lean ====
/-
  The claims, assembled: the three frames come from the programs' own modules, the value claim from the two runs and
  the equation between their results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_symmetric
public import proofs.«01_k».proof.Proof.Gen.ReferenceIdeal.Run
public import proofs.«01_k».proof.Proof.KernelRun
public import proofs.«01_k».proof.Proof.RefTerm
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The five claims. -/
theorem claim : Cert.Claim := ⟨Cert.Kernel.Gen.facts, Cert.KernelIdeal.Gen.facts, Cert.ReferenceIdeal.Gen.facts, Cert.Pre_symmetric.Gen.facts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono
    (fun r h => ⟨fun c => (h c).2, Idealize.ShloMosaic.sem_eq_zero_of_no_sems (by decide) r.2⟩) (Cert.ReferenceIdeal.Value.run (F := Ideal) m ρ),
  fun m ρ _ => (θ_run Cert.ReferenceIdeal.defs _ _).mono
    (fun r h => ⟨fun c => (h c).2, Idealize.ShloMosaic.sem_eq_zero_of_no_sems (by decide) r.2⟩) (Cert.ReferenceIdeal.Value.run (F := Ideal) m ρ),
  trivial,
  fun m ρ m' ρ' hpre hagree => by
    refine ⟨_, Cert.KernelIdeal.Cheb.run (F := Ideal) m ρ, ?_⟩
    refine (θ_run Cert.ReferenceIdeal.defs _ _).mono (fun _ h c => ⟨(h c).1.trans ?_, (h c).2⟩) (Cert.ReferenceIdeal.Cheb.run (F := Ideal) m' ρ')
    obtain ⟨h0, h1, h2, h3, h4, h5⟩ := hagree c
    rw [h0, h1, h2, h3, h4, h5]
    exact (Cert.Cheb.result_eq _ _ _ _ _ _ (Cert.Cheb.symmetric_apply _ _ _ _ _ _ (hpre c))).symm⟩

end Cert.Proof

end
